-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096x8 : Shape := ⟨3, ![4096, 4096, 8]⟩
abbrev S8 : Shape := ⟨1, ![8]⟩
abbrev S4096 : Shape := ⟨1, ![4096]⟩
abbrev S_ : Shape := ⟨0, ![]⟩

class Facts : Prop where
  bcast_S_S4096x4096x8 : S_.BroadcastsInDim S4096x4096x8 (![] : Fin 0 → Fin S4096x4096x8.rank)
  bcast_S_S4096 : S_.BroadcastsInDim S4096 (![] : Fin 0 → Fin S4096.rank)

variable [Facts]

def fn {F : FTy → Type} [FloatOps F] (main_arg0 : FVec F S4096x4096x8 .f32) (main_arg1 : FVec F S8 .f32) (main_arg2 : FVec F S4096 .f32) (main_arg3 : FVec F S4096 .f32) : IVec S4096x4096x8 1 × IVec S4096 1 × IVec S4096 1 :=
  let main_v0 : FVec F S4096x4096x8 .f32 := Host.absf main_arg0
  let main_cst : FVec F S_ .f32 := constant S_ .f32 0x7F800000#32
  let main_v1 : FVec F S4096x4096x8 .f32 := broadcastInDim S4096x4096x8 ![] bcast_S_S4096x4096x8 main_cst
  let main_v2 : IVec S4096x4096x8 1 := cmpf .olt main_v0 main_v1
  let main_v3 : FVec F S4096 .f32 := Host.absf main_arg2
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S4096 .f32 := Host.absf main_arg3
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  (main_v2, main_v5, main_v8)
-- ==== Kernel.lean ====
abbrev S4096x4096x8 : Shape := ⟨3, ![4096, 4096, 8]⟩
abbrev S8 : Shape := ⟨1, ![8]⟩
abbrev S4096 : Shape := ⟨1, ![4096]⟩
abbrev S4096x8x4096 : Shape := ⟨3, ![4096, 8, 4096]⟩
abbrev S32x1x128 : Shape := ⟨3, ![32, 1, 128]⟩
abbrev S1x1x4096 : Shape := ⟨3, ![1, 1, 4096]⟩
abbrev S1x1x8 : Shape := ⟨3, ![1, 1, 8]⟩
abbrev S128x8x2048 : Shape := ⟨3, ![128, 8, 2048]⟩
abbrev S1x1x128 : Shape := ⟨3, ![1, 1, 128]⟩
abbrev S1x1x2048 : Shape := ⟨3, ![1, 1, 2048]⟩
abbrev S128x1x1 : Shape := ⟨3, ![128, 1, 1]⟩
abbrev S1x8x1 : Shape := ⟨3, ![1, 8, 1]⟩
abbrev S128x1x2048 : Shape := ⟨3, ![128, 1, 2048]⟩

abbrev nBuf : Space → Nat
  | .hbm => 10
  | .vmem => 9
  | .smem => 0
  | _ => 0

abbrev bufTy : (tb : Table) → Fin (tcTables nBuf tb) → BufTy
  | .hbm, ⟨0, _⟩ => ⟨S4096x4096x8, .f32⟩
  | .hbm, ⟨1, _⟩ => ⟨S8, .f32⟩
  | .hbm, ⟨2, _⟩ => ⟨S4096, .f32⟩
  | .hbm, ⟨3, _⟩ => ⟨S4096, .f32⟩
  | .hbm, ⟨4, _⟩ => ⟨S4096x8x4096, .f32⟩
  | .hbm, ⟨5, _⟩ => ⟨S32x1x128, .f32⟩
  | .hbm, ⟨6, _⟩ => ⟨S1x1x4096, .f32⟩
  | .hbm, ⟨7, _⟩ => ⟨S1x1x8, .f32⟩
  | .hbm, ⟨8, _⟩ => ⟨S4096x8x4096, .f32⟩
  | .hbm, ⟨9, _⟩ => ⟨S4096x4096x8, .f32⟩
  | .local _ .vmem, ⟨0, _⟩ => ⟨S128x8x2048, .f32⟩
  | .local _ .vmem, ⟨1, _⟩ => ⟨S128x8x2048, .f32⟩
  | .local _ .vmem, ⟨2, _⟩ => ⟨S1x1x128, .f32⟩
  | .local _ .vmem, ⟨3, _⟩ => ⟨S1x1x128, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8, .f32⟩
  | .local _ .vmem, ⟨7, _⟩ => ⟨S128x8x2048, .f32⟩
  | .local _ .vmem, ⟨8, _⟩ => ⟨S128x8x2048, .f32⟩
  | _, _ => ⟨S4096x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x4096x8 : Shape := ⟨3, ![4096, 4096, 8]⟩
abbrev S8 : Shape := ⟨1, ![8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S1x1x8 : Shape := ⟨3, ![1, 1, 8]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096x8, .f32⟩
  | .hbm, ⟨1, _⟩ => ⟨S8, .f32⟩
  | .hbm, ⟨2, _⟩ => ⟨S4096, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096x1, .f32⟩
  | .hbm, ⟨10, _⟩ => ⟨S4096x4096x8, .f32⟩
  | .hbm, ⟨11, _⟩ => ⟨S1x1x8, .f32⟩
  | .hbm, ⟨12, _⟩ => ⟨S4096x4096x8, .f32⟩
  | .hbm, ⟨13, _⟩ => ⟨S_, .f32⟩
  | .hbm, ⟨14, _⟩ => ⟨S4096x4096x8, .f32⟩
  | .hbm, ⟨15, _⟩ => ⟨S4096x4096x8, .f32⟩
  | .hbm, ⟨16, _⟩ => ⟨S4096x4096x8, .f32⟩
  | .hbm, ⟨17, _⟩ => ⟨S4096x4096x8, .f32⟩
  | .hbm, ⟨18, _⟩ => ⟨S4096x4096x8, .f32⟩
  | _, _ => ⟨S4096x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Blend.lean ====
/-
  The one identity of extended reals that the two programs differ by: blending `e` into `a` with weight `x·y`, written as a
  step from `a` toward `e` or as a weighted mean of the two. The weight and `a` are real; `e` is any extended real.
-/
module

public import Mathlib.Data.EReal.Operations

@[expose] public section

namespace Cert.Blend

/-- The step from `a` toward `e` is the weighted mean, for a real `a`, real factors of the weight, and any `e`. -/
theorem step_eq_mean (a x y : ℝ) (e : EReal) :
    (a : EReal) + (x : EReal) * (y : EReal) * (e - (a : EReal))
      = (1 - (x : EReal) * (y : EReal)) * (a : EReal) + (x : EReal) * (y : EReal) * e := by
  have hw : (x : EReal) * (y : EReal) = ((x * y : ℝ) : EReal) := (EReal.coe_mul x y).symm
  have h1 : (1 : EReal) - ((x * y : ℝ) : EReal) = ((1 - x * y : ℝ) : EReal) := by
    rw [EReal.coe_sub, EReal.coe_one]
  rw [hw, h1]
  generalize x * y = w
  induction e with
  | coe r =>
    rw [← EReal.coe_sub, ← EReal.coe_mul, ← EReal.coe_mul, ← EReal.coe_mul, ← EReal.coe_add, ← EReal.coe_add]
    congr 1
    ring
  | top =>
    rw [EReal.top_sub_coe, ← EReal.coe_mul]
    rcases lt_trichotomy w 0 with h | h | h
    · rw [EReal.coe_mul_top_of_neg h, EReal.add_bot, EReal.add_bot]
    · subst h; simp
    · rw [EReal.coe_mul_top_of_pos h, EReal.coe_add_top, EReal.coe_add_top]
  | bot =>
    rw [EReal.bot_sub, ← EReal.coe_mul]
    rcases lt_trichotomy w 0 with h | h | h
    · rw [EReal.coe_mul_bot_of_neg h, EReal.coe_add_top, EReal.coe_add_top]
    · subst h; simp
    · rw [EReal.coe_mul_bot_of_pos h, EReal.add_bot, EReal.add_bot]

/-- An extended real whose absolute value is below infinity is real. -/
theorem real_of_abs_lt_top (x : EReal) (h : max x (-x) < ⊤) : ∃ r : ℝ, x = (r : EReal) := by
  induction x with
  | coe r => exact ⟨r, rfl⟩
  | top => simp at h
  | bot => simp at h

/-! ## Why the precondition: the identity fails at an infinite `a` and at an infinite weight -/

/-- At `a = +∞`, weight one half, `e = 0` the step is `-∞` and the mean `+∞`. -/
theorem differ_infinite_array :
    (⊤ : EReal) + ((1 / 2 : ℝ) : EReal) * 1 * (0 - ⊤) ≠ (1 - ((1 / 2 : ℝ) : EReal) * 1) * ⊤ + ((1 / 2 : ℝ) : EReal) * 1 * 0 := by
  have h1 : (1 : EReal) - ((1 / 2 : ℝ) : EReal) = ((1 / 2 : ℝ) : EReal) := by
    rw [← EReal.coe_one, ← EReal.coe_sub]; norm_num
  rw [mul_one, h1, EReal.sub_top, EReal.coe_mul_bot_of_pos (by norm_num), EReal.add_bot, mul_zero, add_zero,
    EReal.coe_mul_top_of_pos (by norm_num)]
  exact bot_ne_top

/-- At a weight of `+∞`, `a = 1`, `e = 2` the step is `+∞` and the mean `-∞`. -/
theorem differ_infinite_weight : ((1 : ℝ) : EReal) + ⊤ * (((2 : ℝ) : EReal) - ((1 : ℝ) : EReal))
    ≠ (1 - ⊤) * ((1 : ℝ) : EReal) + ⊤ * ((2 : ℝ) : EReal) := by
  rw [← EReal.coe_sub, EReal.top_mul_coe_of_pos (by norm_num), EReal.coe_add_top, EReal.sub_top,
    EReal.bot_mul_coe_of_pos (by norm_num), EReal.bot_add]
  exact top_ne_bot

end Cert.Blend

end
-- ==== Proof.Finite.lean ====
/-
  The precondition `finite` read back: the array's elements and the two vectors' elements are real.
-/
module

public import proofs.«01_k».proof.Pre_finite
public import proofs.«01_k».proof.Proof.Blend
public import Idealize.ShloMosaic.Lib.Pipeline.Value
public import Idealize.ShloMosaic.Lib.ValueIdx

@[expose] public section

noncomputable section

namespace Cert.Pre_finite

open Idealize.ShloMosaic Idealize.ShloMosaic.ValueIdx

/-- The two broadcasts of a scalar the predicate takes. -/
theorem facts : Facts where
  bcast_S_S4096x4096x8 := ⟨fun a => a.elim0, fun a => a.elim0⟩
  bcast_S_S4096 := ⟨fun a => a.elim0, fun a => a.elim0⟩

/-- A comparison "absolute value below the infinity word" that came out one says the value is real. -/
theorem real_of_below (x : Ideal .f32)
    (h : FloatOps.cmpf .olt (FloatOps.hostAbsf x) (FloatOps.ofBits (F := Ideal) .f32 0x7F800000#32) = 1#1) :
    ∃ r : ℝ, x = (r : EReal) := by
  have hinf : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [hinf] at h'
  refine Cert.Blend.real_of_abs_lt_top x ?_
  by_contra hn
  rw [decide_eq_false hn] at h'
  exact absurd h' (by decide)

variable [Facts] (a : FVec Ideal S4096x4096x8 .f32) (e : FVec Ideal S8 .f32) (x y : FVec Ideal S4096 .f32)

theorem array_real (h : (fn a e x y).1 = fun _ => 1#1) (i : S4096x4096x8.Idx) : ∃ r : ℝ, a i = (r : EReal) :=
  real_of_below _ (congrFun h i)

theorem rows_real (h : (fn a e x y).2.1 = fun _ => 1#1) (i : S4096.Idx) : ∃ r : ℝ, x i = (r : EReal) :=
  real_of_below _ (congrFun h i)

theorem cols_real (h : (fn a e x y).2.2 = fun _ => 1#1) (i : S4096.Idx) : ∃ r : ℝ, y i = (r : EReal) :=
  real_of_below _ (congrFun h i)

end Cert.Pre_finite

end
-- ==== Proof.Block.lean ====
/-
  What the kernel's body stores, at one place of the block, from the four blocks it loads.
-/
module

public import proofs.«01_k».proof.Proof.Gen.KernelIdeal.Frame
public import Idealize.ShloMosaic.Lib.Pipeline.Value
public import Idealize.ShloMosaic.Lib.ValueIdx

@[expose] public section

noncomputable section

namespace Cert.KernelIdeal.Blend

open Cert.KernelIdeal Cert.KernelIdeal.Gen Idealize.ShloMosaic Idealize.ShloMosaic.ValueIdx

variable {F : FTy → Type} [FloatOps F]

/-- One element of the blend: from `a`, a step of weight `x·y` toward `e`. -/
def step (a x y e : F .f32) : F .f32 :=
  FloatOps.addf a (FloatOps.mulf (FloatOps.mulf x y) (FloatOps.subf e a))

/-- The stored block at row `j 0`, channel `j 1`, column `j 2`: the step from the array's element there, with the row's
    and the column's factor, toward the channel's value. -/
theorem stored_apply (a : Vec F S128x8x2048 .f32) (x : Vec F S1x1x128 .f32) (e : Vec F S1x1x8 .f32)
    (y : Vec F S1x1x2048 .f32) (j : S128x8x2048.Idx) (jx : S1x1x128.Idx) (je : S1x1x8.Idx) (jy : S1x1x2048.Idx)
    (hx : (jx 2).val = (j 0).val) (he : (je 2).val = (j 1).val) (hy : (jy 2).val = (j 2).val) :
    k0_pay1 a x e y j = step (a j) (x jx) (y jy) (e je) := by
  have zx0 : (jx 0).val = 0 := by have h : (jx 0).val < 1 := (jx 0).isLt; omega
  have zx1 : (jx 1).val = 0 := by have h : (jx 1).val < 1 := (jx 1).isLt; omega
  have ze0 : (je 0).val = 0 := by have h : (je 0).val < 1 := (je 0).isLt; omega
  have ze1 : (je 1).val = 0 := by have h : (je 1).val < 1 := (je 1).isLt; omega
  have zy0 : (jy 0).val = 0 := by have h : (jy 0).val < 1 := (jy 0).isLt; omega
  have zy1 : (jy 1).val = 0 := by have h : (jy 1).val < 1 := (jy 1).isLt; omega
  let jw : S128x1x2048.Idx := ix3 (n0 := 128) (n1 := 1) (n2 := 2048) (j 0) 0 (j 2)
  unfold k0_pay1 step
  simp only [shapeCast_self]
  show FloatOps.addf (a j) (FloatOps.mulf (broadcastTo S128x8x2048 _ _ j) (FloatOps.subf (broadcastTo S128x8x2048 _ _ j) (a j))) = _
  rw [broadcastTo_apply _ _ j jw (fun b => by fin_cases b <;> rfl)]
  show FloatOps.addf (a j) (FloatOps.mulf (FloatOps.mulf (broadcastTo S128x1x2048 _ _ jw) (broadcastTo S128x1x2048 _ _ jw)) _) = _
  rw [broadcastTo_apply _ broadcasts_S128x1x1_S128x1x2048 jw (ix3 (n0 := 128) (n1 := 1) (n2 := 1) (j 0) 0 0) (fun b => by fin_cases b <;> rfl),
    broadcastTo_apply _ broadcasts_S1x1x2048_S128x1x2048 jw jy (fun b => by fin_cases b; exacts [zy0, zy1, hy]),
    broadcastTo_apply _ broadcasts_S1x8x1_S128x8x2048 j (ix3 (n0 := 1) (n1 := 8) (n2 := 1) 0 (j 1) 0) (fun b => by fin_cases b <;> rfl),
    transpose_apply _ x _ _ jx (fun b => by fin_cases b; exacts [hx, zx1, zx0]),
    transpose_apply _ e _ _ je (fun b => by fin_cases b; exacts [ze0, he, ze1])]

end Cert.KernelIdeal.Blend

end
-- ==== Proof.KernelValue.lean ====
/-
  The kernel's result array, element by element: every grid point writes back its block of one function of the arrays the
  region is entered with, the blocks tile the array, and the host's last transpose puts the axes back.
-/
module

public import proofs.«01_k».proof.Proof.Block
public import Idealize.ShloMosaic.Lib.StableHlo.Run

@[expose] public section

noncomputable section

namespace Cert.KernelIdeal.Blend

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The arrays the region is entered with -/

theorem entry_array (c : Dev nD) : V m c main_v0
    = transpose S4096x8x4096 [0, 2, 1] (m ((c : Thread nD τ).loc main_arg0)) transposes_S4096x4096x8_S4096x8x4096_0_2_1 := by
  show StableHlo.after hostOps0 _ (Proc.devRef .tc main_v0) = _
  after_results

theorem entry_rows (c : Dev nD) : V m c main_v1
    = shapeCast S32x1x128 (m ((c : Thread nD τ).loc main_arg2)) shapeCasts_S4096_S32x1x128 := by
  show StableHlo.after hostOps0 _ (Proc.devRef .tc main_v1) = _
  after_results
  rfl

theorem entry_cols (c : Dev nD) : V m c main_v2
    = shapeCast S1x1x4096 (m ((c : Thread nD τ).loc main_arg3)) shapeCasts_S4096_S1x1x4096 := by
  show StableHlo.after hostOps0 _ (Proc.devRef .tc main_v2) = _
  after_results
  rfl

theorem entry_channels (c : Dev nD) : V m c main_v3
    = shapeCast S1x1x8 (m ((c : Thread nD τ).loc main_arg1)) shapeCasts_S8_S1x1x8 := by
  show StableHlo.after hostOps0 _ (Proc.devRef .tc main_v3) = _
  after_results
  rfl

/-! ## One function of the arguments -/

/-- The blend of device `c`'s arguments, in the channel-middle layout the region writes: row `i 0`, channel `i 1`,
    column `i 2`. -/
def blended (c : Dev nD) : Buf (Elt F) ((c : Thread nD τ).loc main_v4) := fun (i : S4096x8x4096.Idx) =>
  step (m ((c : Thread nD τ).loc main_arg0) (ix3 (n0 := 4096) (n1 := 4096) (n2 := 8) (i 0) (i 2) (i 1)))
    (m ((c : Thread nD τ).loc main_arg2) (ix1 (n := 4096) (i 0)))
    (m ((c : Thread nD τ).loc main_arg3) (ix1 (n := 4096) (i 2)))
    (m ((c : Thread nD τ).loc main_arg1) (ix1 (n := 8) (i 1)))

/-- The array as the region finds it, at an index: the argument with its last two axes exchanged. -/
theorem entry_array_apply (c : Dev nD) (i : S4096x8x4096.Idx) : V m c main_v0 i
    = m ((c : Thread nD τ).loc main_arg0) (ix3 (n0 := 4096) (n1 := 4096) (n2 := 8) (i 0) (i 2) (i 1)) := by
  rw [entry_array]
  exact transpose_apply _ _ _ _ _ (fun b => by fin_cases b <;> rfl)

/-- The row factors as the region finds them: tile `i 0`, lane `i 2` is row `128·(i 0) + i 2`. -/
theorem entry_rows_apply (c : Dev nD) (i : S32x1x128.Idx) (r : Fin 4096) (h : (i 0).val * 128 + (i 2).val = r.val) :
    V m c main_v1 i = m ((c : Thread nD τ).loc main_arg2) (ix1 (n := 4096) r) := by
  rw [entry_rows]
  refine shapeCast_apply _ _ _ _ ?_
  refine (Shape.rowMajor_val_one _).trans ((Shape.rowMajor_val_three i).trans ?_).symm
  have h1 : (i 1).val < 1 := (i 1).isLt
  show ((i 0).val * 1 + (i 1).val) * 128 + (i 2).val = r.val
  omega

/-- The column factors as the region finds them. -/
theorem entry_cols_apply (c : Dev nD) (i : S1x1x4096.Idx) (r : Fin 4096) (h : (i 2).val = r.val) :
    V m c main_v2 i = m ((c : Thread nD τ).loc main_arg3) (ix1 (n := 4096) r) := by
  rw [entry_cols]
  refine shapeCast_apply _ _ _ _ ?_
  refine (Shape.rowMajor_val_one _).trans ((Shape.rowMajor_val_three i).trans ?_).symm
  have h0 : (i 0).val < 1 := (i 0).isLt
  have h1 : (i 1).val < 1 := (i 1).isLt
  show ((i 0).val * 1 + (i 1).val) * 4096 + (i 2).val = r.val
  omega

/-- The channel values as the region finds them. -/
theorem entry_channels_apply (c : Dev nD) (i : S1x1x8.Idx) (r : Fin 8) (h : (i 2).val = r.val) :
    V m c main_v3 i = m ((c : Thread nD τ).loc main_arg1) (ix1 (n := 8) r) := by
  rw [entry_channels]
  refine shapeCast_apply _ _ _ _ ?_
  refine (Shape.rowMajor_val_one _).trans ((Shape.rowMajor_val_three i).trans ?_).symm
  have h0 : (i 0).val < 1 := (i 0).isLt
  have h1 : (i 1).val < 1 := (i 1).isLt
  show ((i 0).val * 1 + (i 1).val) * 8 + (i 2).val = r.val
  omega

/-! ## What a grid point writes back -/

theorem zero3 : (![0, 0, 0] : Fin 3 → Nat) = fun _ => 0 := funext fun a => by fin_cases a <;> rfl

/-- The grid point's row tile and column tile. -/
theorem coords_val : ∀ t : Fin grid0.N, (grid0.coords t 0).val = t.val / 2 ∧ (grid0.coords t 1).val = t.val % 2 := by
  decide +kernel

theorem index_array : ∀ t : Fin grid0.N, win0_0.index t 0 = t.val / 2 ∧ win0_0.index t 1 = 0 ∧ win0_0.index t 2 = t.val % 2 := by
  decide +kernel
theorem index_rows : ∀ t : Fin grid0.N, win0_1.index t 0 = t.val / 2 ∧ win0_1.index t 1 = 0 ∧ win0_1.index t 2 = 0 := by
  decide +kernel
theorem index_cols : ∀ t : Fin grid0.N, win0_2.index t 0 = 0 ∧ win0_2.index t 1 = 0 ∧ win0_2.index t 2 = t.val % 2 := by
  decide +kernel
theorem index_channels : ∀ t : Fin grid0.N, win0_3.index t 0 = 0 ∧ win0_3.index t 1 = 0 ∧ win0_3.index t 2 = 0 := by
  decide +kernel
theorem index_result : ∀ t : Fin grid0.N, win0_4.index t 0 = t.val / 2 ∧ win0_4.index t 1 = 0 ∧ win0_4.index t 2 = t.val % 2 := by
  decide +kernel

/-- Point `t` writes back its block of the blend. -/
theorem flushed_eq (c : Dev nD) (t : Fin cfg0.N) :
    (dats m 0 c).flushed 4 t = (win0_4.blk t).view.read (Elt F) (blended m c) := by
  show (cfg0.win 4).cut (grid0.coords t) ((dats m 0 c).after 4 t) = _
  rw [after0_4]
  unfold out0_4
  rw [View.canon_unit_zero zero3, View.ld_unit_zero zero3, View.ld_unit_zero zero3, View.ld_unit_zero zero3,
    View.ld_unit_zero zero3]
  funext j
  show k0_pay1 (iblk m c 0 t) (iblk m c 1 t) (iblk m c 3 t) (iblk m c 2 t) (j : S128x8x2048.Idx)
    = blended m c ((win0_4.rect t).emb j)
  have hj0 : (j 0).val < 128 := (j 0).isLt
  have hj1 : (j 1).val < 8 := (j 1).isLt
  have hj2 : (j 2).val < 2048 := (j 2).isLt
  rw [stored_apply _ _ _ _ (j : S128x8x2048.Idx) (ix3 (n0 := 1) (n1 := 1) (n2 := 128) 0 0 (j 0))
    (ix3 (n0 := 1) (n1 := 1) (n2 := 8) 0 0 (j 1)) (ix3 (n0 := 1) (n1 := 1) (n2 := 2048) 0 0 (j 2)) rfl rfl rfl]
  have r0 : ((win0_4.rect t).emb j 0 : Nat) = t.val / 2 * 128 + (j 0).val := by
    rw [win0_4.rect_emb_val t j 0, (index_result t).1]; rfl
  have r1 : ((win0_4.rect t).emb j 1 : Nat) = (j 1).val := by
    rw [win0_4.rect_emb_val t j 1, (index_result t).2.1, Nat.zero_mul, Nat.zero_add]
  have r2 : ((win0_4.rect t).emb j 2 : Nat) = t.val % 2 * 2048 + (j 2).val := by
    rw [win0_4.rect_emb_val t j 2, (index_result t).2.2]; rfl
  have ha : iblk m c 0 t (j : S128x8x2048.Idx) = m ((c : Thread nD τ).loc main_arg0)
      (ix3 (n0 := 4096) (n1 := 4096) (n2 := 8) ((win0_4.rect t).emb j 0) ((win0_4.rect t).emb j 2) ((win0_4.rect t).emb j 1)) := by
    show V m c main_v0 ((win0_0.rect t).emb j) = _
    rw [entry_array_apply]
    rfl
  have hx : iblk m c 1 t (ix3 (n0 := 1) (n1 := 1) (n2 := 128) 0 0 (j 0))
      = m ((c : Thread nD τ).loc main_arg2) (ix1 (n := 4096) ((win0_4.rect t).emb j 0)) := by
    show V m c main_v1 ((win0_1.rect t).emb (ix3 (n0 := 1) (n1 := 1) (n2 := 128) 0 0 (j 0))) = _
    refine entry_rows_apply m c _ _ ?_
    rw [r0, win0_1.rect_emb_val t _ 0, win0_1.rect_emb_val t _ 2, (index_rows t).1, (index_rows t).2.2]
    show (t.val / 2 * 1 + 0) * 128 + (0 * 128 + (j 0).val) = _
    omega
  have hy : iblk m c 2 t (ix3 (n0 := 1) (n1 := 1) (n2 := 2048) 0 0 (j 2))
      = m ((c : Thread nD τ).loc main_arg3) (ix1 (n := 4096) ((win0_4.rect t).emb j 2)) := by
    show V m c main_v2 ((win0_2.rect t).emb (ix3 (n0 := 1) (n1 := 1) (n2 := 2048) 0 0 (j 2))) = _
    refine entry_cols_apply m c _ _ ?_
    rw [r2, win0_2.rect_emb_val t _ 2, (index_cols t).2.2]
    rfl
  have he : iblk m c 3 t (ix3 (n0 := 1) (n1 := 1) (n2 := 8) 0 0 (j 1))
      = m ((c : Thread nD τ).loc main_arg1) (ix1 (n := 8) ((win0_4.rect t).emb j 1)) := by
    show V m c main_v3 ((win0_3.rect t).emb (ix3 (n0 := 1) (n1 := 1) (n2 := 8) 0 0 (j 1))) = _
    refine entry_channels_apply m c _ _ ?_
    rw [r1, win0_3.rect_emb_val t _ 2, (index_channels t).2.2]
    show 0 * 8 + (j 1).val = _
    omega
  rw [ha, hx, hy, he]
  rfl

/-! ## The blocks tile the result -/

/-- An index of the result lies in the block of the point whose row tile and column tile hold it. -/
theorem cover (i : S4096x8x4096.Idx) :
    ∃ t : Fin cfg0.N, (cfg0.win 4).flush t = true ∧ i ∈ ((cfg0.win 4).blk t).view.set := by
  have h0 : (i 0).val < 4096 := (i 0).isLt
  have h1 : (i 1).val < 8 := (i 1).isLt
  have h2 : (i 2).val < 4096 := (i 2).isLt
  have hN : cfg0.N = 64 := N_0
  refine ⟨⟨(i 0).val / 128 * 2 + (i 2).val / 2048, by omega⟩, flush0_4 _, ?_⟩
  generalize ht : (⟨(i 0).val / 128 * 2 + (i 2).val / 2048, _⟩ : Fin cfg0.N) = t
  have tv : t.val = (i 0).val / 128 * 2 + (i 2).val / 2048 := by rw [← ht]
  show i ∈ ((View.whole main_v4).slice (win0_4.rect t)).set
  rw [View.set_slice_whole, Rect.mem_set_unit]
  intro a
  match a with
  | ⟨0, _⟩ =>
    show win0_4.index t 0 * 128 ≤ (i 0).val ∧ (i 0).val < win0_4.index t 0 * 128 + 128
    rw [(index_result t).1]; omega
  | ⟨1, _⟩ =>
    show win0_4.index t 1 * 8 ≤ (i 1).val ∧ (i 1).val < win0_4.index t 1 * 8 + 8
    rw [(index_result t).2.1]; omega
  | ⟨2, _⟩ =>
    show win0_4.index t 2 * 2048 ≤ (i 2).val ∧ (i 2).val < win0_4.index t 2 * 2048 + 2048
    rw [(index_result t).2.2]; omega

/-- So the region leaves the blend in its result array. -/
theorem region_result (c : Dev nD) : (dats m 0 c).arrAt 4 cfg0.N = blended m c :=
  (dats m 0 c).arrAt_eq_of_cover 4 (blended m c) (fun t _ => flushed_eq m c t) cover

/-! ## The program's result -/

/-- The blend of device `c`'s arguments in their own layout: row `i 0`, column `i 1`, channel `i 2`. -/
def result (c : Dev nD) : Buf (Elt F) ((c : Thread nD τ).loc main_v5) := fun (i : S4096x4096x8.Idx) =>
  step (m ((c : Thread nD τ).loc main_arg0) i)
    (m ((c : Thread nD τ).loc main_arg2) (ix1 (n := 4096) (i 0)))
    (m ((c : Thread nD τ).loc main_arg3) (ix1 (n := 4096) (i 1)))
    (m ((c : Thread nD τ).loc main_arg1) (ix1 (n := 8) (i 2)))

theorem arrays_distinct : Function.Injective (Pipeline.arrRef spec0) := by decide

/-- After the last transpose the result buffer holds the blend. -/
theorem tail_result (c : Dev nD) : Pipeline.afterTail₀ cfgs (dats m) 0 (V0 m) [hostOps1] c main_v5 = result m c := by
  unfold Pipeline.afterTail₀
  show StableHlo.after hostOps1 _ (Proc.devRef .tc main_v5) = _
  after_results
  have h : Pipeline.withArrays (cfgs 0).spec c (V0 m c) (fun w => (dats m 0 c).arrAt w (cfgs 0).N) (Proc.devRef .tc main_v4)
      = blended m c :=
    (Pipeline.withArrays_arr spec0 arrays_distinct c (V0 m c) (fun w => (dats m 0 c).arrAt w cfg0.N) 4).trans (region_result m c)
  rw [h]
  funext i
  refine (transpose_apply _ _ _ i (ix3 (n0 := 4096) (n1 := 8) (n2 := 4096) (i 0) (i 2) (i 1)) (fun b => by fin_cases b <;> rfl)).trans ?_
  exact congrArg (fun k => step (m ((c : Thread nD τ).loc main_arg0) k) _ _ _) (eq_ix3 i).symm

/-- Every run ends with the blend in the result and the arguments unchanged. -/
theorem run : θ_run defs (onTc (τ := τ) (main (F := F))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h.1 c).2 main_v5 (Pipeline.mem_restRefs_of main_v5 (by decide) (by decide))).trans (tail_result m c), h.2 c⟩)
    (θ_run_and (run_main m ρ) (unchanged m ρ))

end Cert.KernelIdeal.Blend

end
-- ==== Proof.ReferenceValue.lean ====
/-
  The reference's result, element by element: the weighted mean of the array and the channel's value.
-/
module

public import proofs.«01_k».proof.Proof.Gen.ReferenceIdeal.Run
public import Idealize.ShloMosaic.Lib.Pipeline.Value
public import Idealize.ShloMosaic.Lib.ValueIdx
public import Idealize.ShloMosaic.Lib.IdealHost

@[expose] public section

noncomputable section

namespace Cert.ReferenceIdeal.Blend

open Cert.ReferenceIdeal Cert.ReferenceIdeal.Gen Idealize.ShloMosaic Idealize.ShloMosaic.TcCoe Idealize.SL.Sem
open Idealize.ShloMosaic.ValueIdx

/-- The mask spread over the channels: the product of the row's and the column's factor. -/
abbrev mask (x y : FVec Ideal S4096 .f32) : FVec Ideal S4096x4096x8 .f32 :=
  broadcastInDim S4096x4096x8 ![0, 1, 2] bcast_S4096x4096x1_S4096x4096x8_0_1_2
    (broadcastInDim S4096x4096x1 ![0, 1] bcast_S4096x4096_S4096x4096x1_0_1
      (mulf (broadcastInDim S4096x4096 ![0, 1] bcast_S4096x1_S4096x4096_0_1 (broadcastInDim S4096x1 ![0] bcast_S4096_S4096x1_0 x))
        (broadcastInDim S4096x4096 ![0, 1] bcast_S1x4096_S4096x4096_0_1 (broadcastInDim S1x4096 ![1] bcast_S4096_S1x4096_1 y))))

/-- The channel values spread over the rows and columns. -/
abbrev channels (e : FVec Ideal S8 .f32) : FVec Ideal S4096x4096x8 .f32 :=
  broadcastInDim S4096x4096x8 ![0, 1, 2] bcast_S1x1x8_S4096x4096x8_0_1_2 (shapeCast S1x1x8 e shapeCasts_S8_S1x1x8)

/-- The constant one spread over the array. -/
abbrev ones : FVec Ideal S4096x4096x8 .f32 :=
  broadcastInDim S4096x4096x8 ![] bcast_S_S4096x4096x8 (constant S_ .f32 0x3F800000#32)

theorem mask_apply (x y : FVec Ideal S4096 .f32) (i : S4096x4096x8.Idx) :
    mask x y i = x (ix1 (n := 4096) (i 0)) * y (ix1 (n := 4096) (i 1)) := by
  let q : S4096x4096.Idx := fun a => match a with | ⟨0, _⟩ => i 0 | ⟨1, _⟩ => i 1
  let q1 : S4096x4096x1.Idx := ix3 (n0 := 4096) (n1 := 4096) (n2 := 1) (i 0) (i 1) 0
  let qx : S4096x1.Idx := fun a => match a with | ⟨0, _⟩ => i 0 | ⟨1, _⟩ => (0 : Fin 1)
  let qy : S1x4096.Idx := fun a => match a with | ⟨0, _⟩ => (0 : Fin 1) | ⟨1, _⟩ => i 1
  refine (broadcastInDim_apply _ _ _ i q1 (fun a => by fin_cases a <;> rfl)).trans ?_
  refine (broadcastInDim_apply _ _ _ q1 q (fun a => by fin_cases a <;> rfl)).trans ?_
  refine congrArg₂ (fun u v : EReal => u * v) ?_ ?_
  · refine (broadcastInDim_apply _ _ _ q qx (fun a => by fin_cases a <;> rfl)).trans ?_
    exact broadcastInDim_apply _ _ _ qx _ (fun a => by fin_cases a; rfl)
  · refine (broadcastInDim_apply _ _ _ q qy (fun a => by fin_cases a <;> rfl)).trans ?_
    exact broadcastInDim_apply _ _ _ qy _ (fun a => by fin_cases a; rfl)

theorem channels_apply (e : FVec Ideal S8 .f32) (i : S4096x4096x8.Idx) : channels e i = e (ix1 (n := 8) (i 2)) := by
  let q : S1x1x8.Idx := ix3 (n0 := 1) (n1 := 1) (n2 := 8) 0 0 (i 2)
  refine (broadcastInDim_apply _ _ _ i q (fun a => by fin_cases a <;> rfl)).trans ?_
  refine shapeCast_apply _ _ _ _ ?_
  refine (Shape.rowMajor_val_one _).trans ((Shape.rowMajor_val_three q).trans ?_).symm
  show (0 * 1 + 0) * 8 + (i 2).val = (i 2).val
  omega

theorem ones_apply (i : S4096x4096x8.Idx) : ones i = (1 : EReal) := Ideal.ofBits_one_f32

/-- The reference's formula at row `i 0`, column `i 1`, channel `i 2`. -/
theorem mean_apply (a : FVec Ideal S4096x4096x8 .f32) (e : FVec Ideal S8 .f32) (x y : FVec Ideal S4096 .f32)
    (i : S4096x4096x8.Idx) :
    addf (mulf (subf ones (mask x y)) a) (mulf (mask x y) (channels e)) i
      = (1 - x (ix1 (n := 4096) (i 0)) * y (ix1 (n := 4096) (i 1))) * a i
        + x (ix1 (n := 4096) (i 0)) * y (ix1 (n := 4096) (i 1)) * e (ix1 (n := 8) (i 2)) := by
  rw [addf_apply, mulf_apply, mulf_apply, subf_apply, mask_apply, channels_apply, ones_apply]

end Cert.ReferenceIdeal.Blend

end
-- ==== Proof.lean ====
/-
  The proof of `Cert.Claim`: the three frames, the idealization, and the equality over the extended reals of the kernel's
  step toward the channel's value and the reference's weighted mean, where the array and the two vectors hold no infinity.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Blend
public import proofs.«01_k».proof.Proof.Finite
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments and every counter as it found them: it declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two formulas agree at every place of the result. -/
theorem step_eq_mean (a : FVec Ideal Cert.ReferenceIdeal.S4096x4096x8 .f32) (e : FVec Ideal Cert.ReferenceIdeal.S8 .f32)
    (x y : FVec Ideal Cert.ReferenceIdeal.S4096 .f32) (ha : ∀ i, ∃ r : ℝ, a i = (r : EReal))
    (hx : ∀ i, ∃ r : ℝ, x i = (r : EReal)) (hy : ∀ i, ∃ r : ℝ, y i = (r : EReal))
    (i : Cert.ReferenceIdeal.S4096x4096x8.Idx) :
    addf (mulf (subf Cert.ReferenceIdeal.Blend.ones (Cert.ReferenceIdeal.Blend.mask x y)) a)
        (mulf (Cert.ReferenceIdeal.Blend.mask x y) (Cert.ReferenceIdeal.Blend.channels e)) i
      = Cert.KernelIdeal.Blend.step (F := Ideal) (a i) (x (ValueIdx.ix1 (n := 4096) (i 0)))
          (y (ValueIdx.ix1 (n := 4096) (i 1))) (e (ValueIdx.ix1 (n := 8) (i 2))) := by
  refine (Cert.ReferenceIdeal.Blend.mean_apply a e x y i).trans ?_
  obtain ⟨ra, ha⟩ := ha i
  obtain ⟨rx, hx⟩ := hx (ValueIdx.ix1 (n := 4096) (i 0))
  obtain ⟨ry, hy⟩ := hy (ValueIdx.ix1 (n := 4096) (i 1))
  rw [ha, hx, hy]
  exact (Cert.Blend.step_eq_mean ra rx ry _).symm

/-- Kernel and reference end with the same array. -/
theorem equal_results [Cert.Pre_finite.Facts] :
    Cert.algebraic_KernelIdeal_ReferenceIdeal_pre_finite := by
  intro m g m' g' hpre hagree
  refine ⟨fun c => Cert.KernelIdeal.Blend.result m c, Cert.KernelIdeal.Blend.run (F := Ideal) m g, ?_⟩
  refine (θ_run Cert.ReferenceIdeal.defs _ _).mono (fun _ h c => ⟨(h c).1.trans ?_, (h c).2⟩)
    (Cert.ReferenceIdeal.Value.run (F := Ideal) m' g')
  rw [(hagree c).1, (hagree c).2.1, (hagree c).2.2.1, (hagree c).2.2.2]
  obtain ⟨pa, px, py⟩ := hpre c
  funext i
  exact step_eq_mean _ _ _ _ (Cert.Pre_finite.array_real _ _ _ _ pa) (Cert.Pre_finite.rows_real _ _ _ _ px)
    (Cert.Pre_finite.cols_real _ _ _ _ py) i

theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    @equal_results Cert.Pre_finite.facts⟩

end Cert.Proof

end
